-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S65536x64 : Shape := ⟨2, ![65536, 64]⟩
abbrev S1024x64 : Shape := ⟨2, ![1024, 64]⟩
abbrev S65536 : Shape := ⟨1, ![65536]⟩
abbrev S1024 : Shape := ⟨1, ![1024]⟩
abbrev S1024x1024 : Shape := ⟨2, ![1024, 1024]⟩
abbrev S1024x1 : Shape := ⟨2, ![1024, 1]⟩
abbrev S1x1024 : Shape := ⟨2, ![1, 1024]⟩

abbrev nBuf : Space → Nat
  | .hbm => 3
  | .vmem => 5
  | .smem => 0
  | _ => 0

abbrev bufTy : (tb : Table) → Fin (tcTables nBuf tb) → BufTy
  | .hbm, ⟨0, _⟩ => ⟨S65536x64, .f32⟩
  | .hbm, ⟨1, _⟩ => ⟨S1024x64, .f32⟩
  | .hbm, ⟨2, _⟩ => ⟨S65536, .i32⟩
  | .local _ .vmem, ⟨0, _⟩ => ⟨S1024x64, .f32⟩
  | .local _ .vmem, ⟨1, _⟩ => ⟨S1024x64, .f32⟩
  | .local _ .vmem, ⟨2, _⟩ => ⟨S1024x64, .f32⟩
  | .local _ .vmem, ⟨3, _⟩ => ⟨S1024, .i32⟩
  | .local _ .vmem, ⟨4, _⟩ => ⟨S1024, .i32⟩
  | _, _ => ⟨S65536x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S65536x64 : Shape := ⟨2, ![65536, 64]⟩
abbrev S1024x64 : Shape := ⟨2, ![1024, 64]⟩
abbrev S_ : Shape := ⟨0, ![]⟩
abbrev S65536 : Shape := ⟨1, ![65536]⟩
abbrev S65536x1 : Shape := ⟨2, ![65536, 1]⟩
abbrev S1024 : Shape := ⟨1, ![1024]⟩
abbrev S1x1024 : Shape := ⟨2, ![1, 1024]⟩
abbrev S65536x1024 : Shape := ⟨2, ![65536, 1024]⟩
abbrev S64x1024 : Shape := ⟨2, ![64, 1024]⟩

abbrev nBuf : Space → Nat
  | .hbm => 29
  | .vmem => 0
  | .smem => 0
  | _ => 0

abbrev bufTy : (tb : Table) → Fin (tcTables nBuf tb) → BufTy
  | .hbm, ⟨0, _⟩ => ⟨S65536x64, .f32⟩
  | .hbm, ⟨1, _⟩ => ⟨S1024x64, .f32⟩
  | .hbm, ⟨2, _⟩ => ⟨S65536x64, .f32⟩
  | .hbm, ⟨3, _⟩ => ⟨S_, .f32⟩
  | .hbm, ⟨4, _⟩ => ⟨S65536, .f32⟩
  | .hbm, ⟨5, _⟩ => ⟨S65536x1, .f32⟩
  | .hbm, ⟨6, _⟩ => ⟨S1024x64, .f32⟩
  | .hbm, ⟨7, _⟩ => ⟨S_, .f32⟩
  | .hbm, ⟨8, _⟩ => ⟨S1024, .f32⟩
  | .hbm, ⟨9, _⟩ => ⟨S1x1024, .f32⟩
  | .hbm, ⟨10, _⟩ => ⟨S65536x1024, .f32⟩
  | .hbm, ⟨11, _⟩ => ⟨S65536x1024, .f32⟩
  | .hbm, ⟨12, _⟩ => ⟨S65536x1024, .f32⟩
  | .hbm, ⟨13, _⟩ => ⟨S64x1024, .f32⟩
  | .hbm, ⟨14, _⟩ => ⟨S65536x1024, .f32⟩
  | .hbm, ⟨15, _⟩ => ⟨S_, .f32⟩
  | .hbm, ⟨16, _⟩ => ⟨S65536x1024, .f32⟩
  | .hbm, ⟨17, _⟩ => ⟨S65536x1024, .f32⟩
  | .hbm, ⟨18, _⟩ => ⟨S65536x1024, .f32⟩
  | .hbm, ⟨19, _⟩ => ⟨S_, .f32⟩
  | .hbm, ⟨20, _⟩ => ⟨S_, .f32⟩
  | .hbm, ⟨21, _⟩ => ⟨S65536x1024, .f32⟩
  | .hbm, ⟨22, _⟩ => ⟨S65536x1024, .f32⟩
  | .hbm, ⟨23, _⟩ => ⟨S65536x1024, .f32⟩
  | .hbm, ⟨24, _⟩ => ⟨S65536x1024, .i32⟩
  | .hbm, ⟨25, _⟩ => ⟨S65536x1024, .f32⟩
  | .hbm, ⟨26, _⟩ => ⟨S65536x1024, .i32⟩
  | .hbm, ⟨27, _⟩ => ⟨S65536x1, .i32⟩
  | .hbm, ⟨28, _⟩ => ⟨S65536, .i32⟩
  | _, _ => ⟨S65536x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_call0_v0 : Ref sig .tc := ⟨.hbm, 20, rfl⟩
abbrev main_call0_v1 : Ref sig .tc := ⟨.hbm, 21, rfl⟩
abbrev main_v14 : Ref sig .tc := ⟨.hbm, 22, rfl⟩
abbrev main_v15 : Ref sig .tc := ⟨.hbm, 23, rfl⟩
abbrev main_call1_v0 : Ref sig .tc := ⟨.hbm, 24, rfl⟩
abbrev main_call1_v1_0 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]
-- ==== Proof.FirstMin.lean ====
/-
  The index of the first least entry of a finite family, in the two ways in which the programs find it.

  A stable sort by "strictly smaller" puts that entry first (`sortedFrom_zero`); and the least of the indices at
  which the family meets its own minimum, every other index being replaced by a bound, is that index (`foldSigned_eq`,
  on 32-bit words read as signed integers).
-/
module

public import Idealize.ShloMosaic.PureOps
public import Idealize.ShloMosaic.PureOps.Reduce
public import Idealize.ShloMosaic.Lib.SortFacts
public import Idealize.ShloMosaic.Lib.WordCmp
public import Mathlib.Data.EReal.Basic

@[expose] public section

namespace Cert.FirstMin

open Idealize.ShloMosaic

/-- `k` is the first index at which `f` takes its least value. -/
structure At {n : Nat} (f : Fin n → EReal) (k : Fin n) : Prop where
  /-- no entry is smaller -/
  least : ∀ l, f k ≤ f l
  /-- every earlier entry is strictly greater -/
  first : ∀ l, l < k → f k < f l

/-- There is only one such index. -/
theorem At.unique {n : Nat} {f : Fin n → EReal} {k l : Fin n} (hk : At f k) (hl : At f l) : k = l := by
  rcases lt_trichotomy k l with h | h | h
  · exact absurd (hl.first k h) (not_lt.mpr (hk.least l))
  · exact h
  · exact absurd (hk.first l h) (not_lt.mpr (hl.least k))

/-! ## The stable sort's head -/

/-- The head of a stably sorted list, for a list whose entries increase: an entry of the list, no entry of the list has a
    smaller key, and those before it have greater keys. -/
theorem head_stableSort {n : Nat} (f : Fin n → EReal) (l : List (Fin n)) (hl : l.Pairwise (· < ·)) :
    ∀ k ∈ (stableSort (fun a b => decide (f a < f b)) l).head?,
      k ∈ l ∧ (∀ b ∈ l, f k ≤ f b) ∧ ∀ b ∈ l, b < k → f k < f b := by
  induction l with
  | nil => intro k hk; simp [stableSort] at hk
  | cons a l ih =>
    rw [List.pairwise_cons] at hl
    have ih := ih hl.2
    intro k hk
    unfold stableSort at hk
    cases hs : stableSort (fun a b => decide (f a < f b)) l with
    | nil =>
      have hnil : l = [] := by
        have := length_stableSort (fun a b => decide (f a < f b)) l
        rw [hs] at this
        exact List.length_eq_zero_iff.mp this.symm
      subst hnil
      rw [hs] at hk
      simp only [insertBefore, List.head?_cons, Option.mem_some_iff] at hk
      subst hk
      simp
    | cons b t =>
      rw [hs] at hk ih
      obtain ⟨hmem, hle, hlt⟩ := ih b (by simp)
      unfold insertBefore at hk
      by_cases hba : f b < f a
      · rw [if_pos (by simpa using hba)] at hk
        simp only [List.head?_cons, Option.mem_some_iff] at hk
        subst hk
        refine ⟨List.mem_cons_of_mem _ hmem, fun c hc => ?_, fun c hc hcb => ?_⟩
        · rcases List.mem_cons.mp hc with rfl | hc
          · exact hba.le
          · exact hle c hc
        · rcases List.mem_cons.mp hc with rfl | hc
          · exact hba
          · exact hlt c hc hcb
      · rw [if_neg (by simpa using hba)] at hk
        simp only [List.head?_cons, Option.mem_some_iff] at hk
        subst hk
        refine ⟨List.mem_cons_self, fun c hc => ?_, fun c hc hca => ?_⟩
        · rcases List.mem_cons.mp hc with rfl | hc
          · exact le_rfl
          · exact (not_lt.mp hba).trans (hle c hc)
        · rcases List.mem_cons.mp hc with rfl | hc
          · exact absurd hca (lt_irrefl _)
          · exact absurd hca (not_lt.mpr (hl.1 c hc).le)

/-- A stable sort of all positions by "strictly smaller key" puts the first least entry at position 0. -/
theorem sortedFrom_zero {n : Nat} (f : Fin n → EReal) (before : Fin n → Fin n → Bool)
    (hb : ∀ a b, before a b = decide (f a < f b)) (z : Fin n) (hz : z.val = 0) : At f (sortedFrom before z) := by
  obtain rfl : before = fun a b => decide (f a < f b) := by funext a b; exact hb a b
  have hk : sortedFrom (fun a b => decide (f a < f b)) z
      ∈ (stableSort (fun a b => decide (f a < f b)) (List.finRange n)).head? := by
    rw [List.head?_eq_getElem?, Option.mem_def]
    have h0 : 0 < (stableSort (fun a b => decide (f a < f b)) (List.finRange n)).length := by
      rw [length_stableSort, List.length_finRange]; exact z.pos
    rw [List.getElem?_eq_getElem h0]
    unfold sortedFrom sortPositions
    simp only [List.get_eq_getElem, Fin.val_cast]
    congr 2
    exact hz.symm
  obtain ⟨-, hle, hlt⟩ := head_stableSort f (List.finRange n) (List.pairwise_lt_finRange n) _ hk
  exact ⟨fun l => hle l (List.mem_finRange l), fun l => hlt l (List.mem_finRange l)⟩

/-! ## The least index at which the minimum is met -/

/-- The minimum of a family from `⊤`, at the first least entry. -/
theorem fold_min_eq {n : Nat} {f : Fin n → EReal} {k : Fin n} (hk : At f k) :
    (Finset.univ : Finset (Fin n)).fold min ⊤ f = f k := by
  apply le_antisymm
  · exact (Finset.fold_min_le _).mpr (.inr ⟨k, Finset.mem_univ k, le_rfl⟩)
  · exact (Finset.le_fold_min _).mpr ⟨le_top, fun l _ => hk.least l⟩

/-- The signed minimum of two words is one that is at most both. -/
theorem toInt_minsi {w : Nat} (a b : BitVec w) : (IntOp.minsi a b).toInt = min a.toInt b.toInt := by
  unfold IntOp.minsi
  rw [BitVec.slt]
  split <;> rename_i h <;> simp at h <;> omega

/-- A signed minimum over a family of words, read as integers. -/
theorem toInt_fold_minsi {n w : Nat} (b : BitVec w) (g : Fin n → BitVec w) :
    ((Finset.univ : Finset (Fin n)).fold IntOp.minsi b g).toInt
      = (Finset.univ : Finset (Fin n)).fold min b.toInt (fun l => (g l).toInt) :=
  (Finset.fold_hom (op := IntOp.minsi) (op' := min) (m := BitVec.toInt) toInt_minsi).symm

/-- A small number's word, read as a signed integer, is the number. -/
theorem toInt_ofNat_small {a : Nat} (ha : a < 2 ^ 31) : (BitVec.ofNat 32 a).toInt = a := by
  rw [BitVec.toInt_eq_toNat_of_lt] <;> rw [BitVec.toNat_ofNat, Nat.mod_eq_of_lt (by omega)]
  omega

/-- The signed minimum, from any word at least `k`, of the indices at which `p` holds (every other index replaced by
    `bound`) is the word of `k`, when `k` is the first index at which `p` holds. -/
theorem fold_minsi_eq {n : Nat} (hn : n < 2 ^ 31) (top bound : BitVec 32) (g : Fin n → BitVec 32) (p : Fin n → Prop)
    (hp : ∀ l, p l → g l = BitVec.ofNat 32 l.val) (hnp : ∀ l, ¬ p l → g l = bound) (k : Fin n) (hk : p k)
    (hfirst : ∀ l, l < k → ¬ p l) (htop : (n : Int) ≤ top.toInt) (hbound : (n : Int) ≤ bound.toInt) :
    (Finset.univ : Finset (Fin n)).fold IntOp.minsi top g = BitVec.ofNat 32 k.val := by
  have hkn := k.isLt
  apply BitVec.eq_of_toInt_eq
  rw [toInt_fold_minsi, toInt_ofNat_small (by omega)]
  apply le_antisymm
  · refine (Finset.fold_min_le _).mpr (.inr ⟨k, Finset.mem_univ k, ?_⟩)
    rw [hp k hk, toInt_ofNat_small (by omega)]
  · refine (Finset.le_fold_min _).mpr ⟨by omega, fun l _ => ?_⟩
    by_cases hl : p l
    · have hln := l.isLt
      rw [hp l hl, toInt_ofNat_small (by omega)]
      have : ¬ l < k := fun h => hfirst l h hl
      have : k.val ≤ l.val := not_lt.mp this
      exact_mod_cast this
    · rw [hnp l hl]; omega

end Cert.FirstMin
-- ==== Proof.Nearest.lean ====
/-
  What the problem asks for, over the extended reals: the distance of two points of 64 coordinates, and for each row
  of the data the index of the nearest centre, the lower index where several are equally near.
-/
module

public import proofs.«01_k».proof.Proof.FirstMin
public import Idealize.ShloMosaic.Lib.Pointwise

@[expose] public section

noncomputable section

namespace Cert.Nearest

open Idealize.ShloMosaic Cert.FirstMin

/-- A matrix of `rows` points of 64 coordinates. -/
abbrev Points (rows : Nat) : Type := (⟨2, ![rows, 64]⟩ : Shape).Idx → EReal

/-- The Euclidean distance of row `r` of `x` and row `k` of `c`: the root of `|x|² + |c|² − 2 x·c`, cut off below zero. -/
def dist {n m : Nat} (x : Points n) (c : Points m) (r : Fin n) (k : Fin m) : EReal :=
  Ideal.sqrt (max (((∑ d : Fin 64, x (ix2 r d) * x (ix2 r d)) + ∑ d : Fin 64, c (ix2 k d) * c (ix2 k d))
    - Ideal.ofBits .f32 0x40000000#32 * ∑ d : Fin 64, x (ix2 r d) * c (ix2 k d)) 0)

/-- A nonempty family has a first least entry. -/
theorem exists_at {n : Nat} (hn : 0 < n) (f : Fin n → EReal) : ∃ k, At f k :=
  ⟨_, sortedFrom_zero f _ (fun _ _ => rfl) ⟨0, hn⟩ rfl⟩

/-- The index of the centre nearest to row `r` of `x`, the lowest such index. -/
def nearest {n : Nat} (x : Points n) (c : Points 1024) (r : Fin n) : Fin 1024 :=
  (exists_at (by decide) (dist x c r)).choose

theorem nearest_at {n : Nat} (x : Points n) (c : Points 1024) (r : Fin n) : At (dist x c r) (nearest x c r) :=
  (exists_at (by decide) (dist x c r)).choose_spec

/-- The first least entry of a row of distances is the nearest centre. -/
theorem eq_nearest {n : Nat} {x : Points n} {c : Points 1024} {r : Fin n} {k : Fin 1024} (h : At (dist x c r) k) :
    k = nearest x c r := h.unique (nearest_at x c r)

/-- The nearest centre depends on the row alone: equal rows of two matrices have the same nearest centre. -/
theorem nearest_congr {n n' : Nat} {x : Points n} {x' : Points n'} {c c' : Points 1024} {r : Fin n} {r' : Fin n'}
    (hx : ∀ d, x (ix2 r d) = x' (ix2 r' d)) (hc : ∀ k d, c (ix2 k d) = c' (ix2 k d)) :
    nearest x c r = nearest x' c' r' := by
  apply eq_nearest
  have h : dist x c r = dist x' c' r' := by
    funext k
    simp only [dist, hx, hc]
  rw [← h]
  exact nearest_at x c r

/-- The result: entry `r` is the word of the nearest centre's index. -/
def assign {n : Nat} (x : Points n) (c : Points 1024) : (⟨1, ![n]⟩ : Shape).Idx → BitVec 32 :=
  fun j => BitVec.ofNat 32 (nearest x c (j 0)).val

end Cert.Nearest

end
-- ==== Proof.KernelBlock.lean ====
/-
  What the kernel's body computes of one block of 1024 points: for each row the index of the nearest centre.
-/
module

public import proofs.«01_k».proof.Proof.Nearest
public import proofs.«01_k».proof.Proof.Gen.KernelIdeal.Skeleton

@[expose] public section

set_option maxRecDepth 16384

noncomputable section

namespace Cert.KernelIdeal.Block

open Idealize.ShloMosaic Cert.FirstMin Cert.Nearest

/-- The word that starts a float minimum is `+∞`, the greatest extended real. -/
theorem ofBits_inf : Ideal.ofBits .f32 0x7F800000#32 = ⊤ := by simp [Ideal.ofBits, Ideal.ieee]

/-- The body's stored value: of each row of the block the least index whose distance is the row's minimum, which is
    the nearest centre's. -/
theorem payload_eq (x c : Vec Ideal S1024x64 .f32) : Gen.k0_pay1 x c = assign (n := 1024) x c := by
  funext j
  obtain ⟨r, rfl⟩ : ∃ r : Fin 1024, j = ix1 r := ⟨j 0, eq_ix1 j⟩
  have hk := nearest_at (n := 1024) x c r
  show _ = BitVec.ofNat 32 (nearest (n := 1024) x c r).val
  generalize nearest (n := 1024) x c r = k at hk ⊢
  pointwise [Gen.k0_pay1]
  have hmin := fold_min_eq hk
  refine fold_minsi_eq (by decide) _ _ _ (fun l => Nearest.dist (n := 1024) x c r l = Nearest.dist (n := 1024) x c r k) ?_ ?_ k rfl ?_
    (by decide : ((1024 : Nat) : Int) ≤ (2147483647#32).toInt) (by decide : ((1024 : Nat) : Int) ≤ (1024#32).toInt)
  · intro l hl
    refine if_pos ?_
    rw [ofBits_inf]
    exact hl.trans hmin.symm
  · intro l hl
    refine if_neg ?_
    rw [ofBits_inf]
    exact fun h => hl (h.trans hmin)
  · exact fun l hl h => absurd h (hk.first l hl).ne'

end Cert.KernelIdeal.Block

end
-- ==== Proof.KernelArray.lean ====
/-
  What the kernel's result array holds after the run: every grid point writes the nearest centres of its block of 1024
  points, and the 64 blocks tile the array.
-/
module

public import proofs.«01_k».proof.Proof.KernelBlock
public import proofs.«01_k».proof.Proof.Gen.KernelIdeal.Value

@[expose] public section

set_option maxRecDepth 16384

noncomputable section

namespace Cert.KernelIdeal.Assigned

open Cert.KernelIdeal Cert.KernelIdeal.Gen Cert.Nearest
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The nearest centres of device `c`'s points: what the result array is shown to hold. -/
def result (c : Dev nD) : Buf (Elt Ideal) ((c : Thread nD τ).loc main_v0) :=
  assign (n := 65536) (m ((c : Thread nD τ).loc main_arg0)) (m ((c : Thread nD τ).loc main_arg1))

/-- Where the blocks lie: point `t` reads rows `1024 t` to `1024 t + 1023` of the points and all the centres, and
    writes the same rows of the result. -/
theorem offsets : ∀ t : Fin cfg0.N,
    win0_0.index t 0 * win0_0.size 0 = t.val * 1024 ∧ win0_0.index t 1 * win0_0.size 1 = 0
      ∧ win0_1.index t 0 * win0_1.size 0 = 0 ∧ win0_1.index t 1 * win0_1.size 1 = 0
      ∧ win0_2.index t 0 * win0_2.size 0 = t.val * 1024 ∧ win0_2.xsize (grid0.coords t) 0 = 1024 :=
  (by decide +kernel : ∀ t : Fin grid0.N,
    win0_0.index t 0 * win0_0.size 0 = t.val * 1024 ∧ win0_0.index t 1 * win0_0.size 1 = 0
      ∧ win0_1.index t 0 * win0_1.size 0 = 0 ∧ win0_1.index t 1 * win0_1.size 1 = 0
      ∧ win0_2.index t 0 * win0_2.size 0 = t.val * 1024 ∧ win0_2.xsize (grid0.coords t) 0 = 1024)

theorem hz1 : (![0] : Fin 1 → Nat) = fun _ => 0 := funext fun a => by fin_cases a; rfl
theorem hz2 : (![0, 0] : Fin 2 → Nat) = fun _ => 0 := funext fun a => by fin_cases a <;> rfl

/-- Row `r` of point `t`'s block is a row of the array. -/
theorem row_lt (t : Fin cfg0.N) (r : Fin 1024) : t.val * 1024 + r.val < 65536 := by
  have ht : t.val < 64 := lt_of_lt_of_eq t.isLt N_0
  have hr := r.isLt
  omega

/-- The block of points at grid point `t`, read at row `r`: row `1024 t + r` of the points. -/
theorem points_block (c : Dev nD) (t : Fin cfg0.N) (r : Fin 1024) (d : Fin 64) :
    iblk m c 0 t (ix2 r d) = m ((c : Thread nD τ).loc main_arg0) (ix2 (⟨t.val * 1024 + r.val, row_lt t r⟩ : Fin 65536) d) := by
  show m ((c : Thread nD τ).loc main_arg0) _ = _
  congr 1
  funext a
  apply Fin.ext
  match a with
  | ⟨0, _⟩ =>
    show win0_0.index t 0 * win0_0.size 0 + 1 * r.val = t.val * 1024 + r.val
    rw [(offsets t).1]; omega
  | ⟨1, _⟩ =>
    show win0_0.index t 1 * win0_0.size 1 + 1 * d.val = d.val
    rw [(offsets t).2.1]; omega

/-- The block of centres at every grid point: all the centres. -/
theorem centres_block (c : Dev nD) (t : Fin cfg0.N) (k : Fin 1024) (d : Fin 64) :
    iblk m c 1 t (ix2 k d) = m ((c : Thread nD τ).loc main_arg1) (ix2 k d) := by
  show m ((c : Thread nD τ).loc main_arg1) _ = _
  congr 1
  funext a
  apply Fin.ext
  match a with
  | ⟨0, _⟩ =>
    show win0_1.index t 0 * win0_1.size 0 + 1 * k.val = k.val
    rw [(offsets t).2.2.1]; omega
  | ⟨1, _⟩ =>
    show win0_1.index t 1 * win0_1.size 1 + 1 * d.val = d.val
    rw [(offsets t).2.2.2.1]; omega

/-- What grid point `t` writes back is block `t` of the nearest centres of all points. -/
theorem flushed_eq (c : Dev nD) (t : Fin cfg0.N) :
    (dats m 0 c).flushed 2 t = (win0_2.blk t).view.read (Elt Ideal) (result m c) := by
  rw [Value.flushed2]
  unfold out0_2
  rw [View.canon_unit_zero hz1, View.ld_unit_zero hz2, View.ld_unit_zero hz2, Block.payload_eq]
  funext j
  obtain ⟨r, rfl⟩ : ∃ r : Fin 1024, j = ix1 r := ⟨j 0, eq_ix1 j⟩
  have hrow : (win0_2.blk t).view.read (Elt Ideal) (result m c) (ix1 r)
      = result m c (ix1 (⟨t.val * 1024 + r.val, row_lt t r⟩ : Fin 65536)) := by
    show result m c _ = _
    congr 1
    funext a
    apply Fin.ext
    match a with
    | ⟨0, _⟩ =>
      show win0_2.index t 0 * win0_2.size 0 + 1 * r.val = t.val * 1024 + r.val
      rw [(offsets t).2.2.2.2.1]; omega
  refine Eq.trans ?_ hrow.symm
  exact congrArg (fun l : Fin 1024 => BitVec.ofNat 32 l.val)
    (nearest_congr (n := 1024) (n' := 65536) (fun d => points_block m c t r d) (fun k d => centres_block m c t k d))

/-- An index of the result array is in point `t`'s block: its 1024 rows. -/
theorem mem_blk (t : Fin cfg0.N) (i : S65536.Idx) :
    i ∈ ((cfg0.win 2).blk t).view.set ↔ t.val * 1024 ≤ (i 0 : Nat) ∧ (i 0 : Nat) < t.val * 1024 + 1024 := by
  show i ∈ ((View.whole main_v0).slice (win0_2.rect t)).set ↔ _
  rw [View.set_slice_whole, Rect.mem_set_unit]
  have e := (offsets t).2.2.2.2
  refine ⟨fun h => ?_, fun h a => ?_⟩
  · have : win0_2.index t 0 * win0_2.size 0 ≤ (i 0 : Nat)
        ∧ (i 0 : Nat) < win0_2.index t 0 * win0_2.size 0 + win0_2.xsize (grid0.coords t) 0 := h 0
    rwa [e.1, e.2] at this
  · match a with
    | ⟨0, _⟩ =>
      show win0_2.index t 0 * win0_2.size 0 ≤ (i 0 : Nat)
        ∧ (i 0 : Nat) < win0_2.index t 0 * win0_2.size 0 + win0_2.xsize (grid0.coords t) 0
      rwa [e.1, e.2]

/-- The blocks tile the result array: index `i` is in the block of point `i / 1024`. -/
theorem cover (i : S65536.Idx) : ∃ t : Fin cfg0.N, (cfg0.win 2).flush t = true ∧ i ∈ ((cfg0.win 2).blk t).view.set := by
  have hi : (i 0 : Nat) < 65536 := (i 0).isLt
  have ht : (i 0 : Nat) / 1024 < cfg0.N := by
    show _ < grid0.N
    rw [N_0]; omega
  refine ⟨⟨(i 0 : Nat) / 1024, ht⟩, flush0_2 _, ?_⟩
  rw [mem_blk]
  dsimp only
  omega

/-- So the result array ends holding the nearest centres of all points. -/
theorem final (c : Dev nD) : (dats m 0 c).arrAt 2 cfg0.N = result m c :=
  (dats m 0 c).arrAt_eq_of_cover 2 (result m c) (fun t _ => flushed_eq m c t) cover

/-- The kernel's run: the result array at the nearest centres, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.KernelIdeal.Assigned

end
-- ==== Proof.ReferenceValue.lean ====
/-
  What the reference computes: it sorts each row of the matrix of distances, carrying the indices, and takes the first
  column of the sorted indices, which holds for each row the index of the nearest centre.
-/
module

public import proofs.«01_k».proof.Proof.Nearest
public import proofs.«01_k».proof.Proof.Gen.ReferenceIdeal.Run

@[expose] public section

set_option maxRecDepth 16384

noncomputable section

namespace Cert.ReferenceIdeal.Sorted

open Cert.ReferenceIdeal Idealize.ShloMosaic Idealize.ShloMosaic.TcCoe Idealize.SL.Sem Cert.FirstMin Cert.Nearest
open Cert.ReferenceIdeal.Gen (facts₀ facts)

/-- The sort's comparator at the ideal values: "strictly smaller". Its special cases, zeros of either sign and values
    that differ from themselves, change nothing there. -/
theorem comparator_eq (a b : Ideal .f32 × BitVec 32) :
    (comparator_f32_i32_d1 (F := Ideal) a b == 1#1) = decide ((a.1 : EReal) < b.1) := by
  have hkey : ∀ v : Ideal .f32, Scalar.select (FloatOps.cmpf .une v v) (FloatOps.ofBits .f32 0x7FC00000#32)
      (Scalar.select (FloatOps.cmpf .oeq v (FloatOps.ofBits .f32 0x00000000#32)) (FloatOps.ofBits .f32 0x00000000#32) v) = v := by
    intro v
    have hune : FloatOps.cmpf .une v v = 0#1 := by simp [Ideal.cmpf_def, Ideal.cmp]
    have h0 : (FloatOps.ofBits .f32 0x00000000#32 : Ideal .f32) = (0 : EReal) := Ideal.ofBits_zero_f32
    rw [hune, h0, Ideal.cmpf_def]
    by_cases hv : v = (0 : EReal)
    · simp [Scalar.select, hv]
    · simp [Scalar.select, Ideal.cmp, hv]
  unfold comparator_f32_i32_d1
  dsimp only
  rw [hkey, hkey, Ideal.cmpfTotal_def]
  show (BitVec.ofBool (decide ((a.1 : EReal) < b.1)) == 1#1) = _
  cases decide ((a.1 : EReal) < b.1) <;> rfl

/-- The place `l` along row `r` is the entry `(r, l)`. -/
theorem along_row (hd : 1 < S65536x1024.rank) (r : Fin 65536) (l : Fin 1024) :
    Shape.Idx.along (s := S65536x1024) (ix2 r 0) ⟨1, hd⟩ l = ix2 r l := by
  funext a
  match a with
  | ⟨0, _⟩ => rfl
  | ⟨1, _⟩ => rfl

/-- The column number at the place `l` along row `r` is `l`. -/
theorem column_number (hd : 1 < S65536x1024.rank) (r : Fin 65536) (l k : Fin 1024) (h : l = k) :
    iotaInDim S65536x1024 32 1 (Shape.Idx.along (s := S65536x1024) (ix2 r 0) ⟨1, hd⟩ l) = BitVec.ofNat 32 k.val := by
  rw [along_row, h]
  rfl

/-- A stable sort of row `r` of `D` that carries the column numbers along puts the first least column first. -/
theorem sorted_column (D : FVec Ideal S65536x1024 .f32) (r : Fin 65536) (k : Fin 1024)
    (hk : At (fun l => D (ix2 r l)) k) :
    (Host.sort2 S65536x1024 1 comparator_f32_i32_d1 D (iotaInDim S65536x1024 32 1)).2 (ix2 r 0)
      = BitVec.ofNat 32 k.val := by
  have hd : 1 < S65536x1024.rank := by decide
  unfold Host.sort2
  rw [dif_pos hd]
  refine column_number hd r _ k ?_
  refine (sortedFrom_zero (fun l => D (ix2 r l)) _ ?_ _ rfl).unique hk
  intro a b
  refine (comparator_eq _ _).trans ?_
  dsimp only
  rw [along_row hd r a, along_row hd r b]

/-- The first column of the indices that a stable sort of the rows of `D` carries along. -/
theorem first_column (D : FVec Ideal S65536x1024 .f32) (r : Fin 65536) (k : Fin 1024)
    (hk : At (fun l => D (ix2 r l)) k) :
    shapeCast S65536 (extractStridedSlice S65536x1 ![0, 0]
      ((Host.sort2 S65536x1024 1 comparator_f32_i32_d1 D (iotaInDim S65536x1024 32 1)).2)
      Gen.slices_S65536x1024_S65536x1_0_0) Gen.shapeCasts_S65536x1_S65536 (ix1 r) = BitVec.ofNat 32 k.val := by
  have hcol := sorted_column D r k hk
  pointwise
  exact hcol

/-- The reference's result as one term of the two arguments: row by row the index of the nearest centre. -/
theorem result_eq (x : FVec Ideal S65536x64 .f32) (c : FVec Ideal S1024x64 .f32) :
    shapeCast S65536 (extractStridedSlice S65536x1 ![0, 0] ((Host.sort2 S65536x1024 1 comparator_f32_i32_d1 (Host.sqrt (maximumf (broadcastInDim S65536x1024 ![] Gen.bcast_S_S65536x1024 (id (constant S_ .f32 0x00000000#32))) (subf (addf (broadcastInDim S65536x1024 ![0, 1] Gen.bcast_S65536x1_S65536x1024_0_1 (broadcastInDim S65536x1 ![0] Gen.bcast_S65536_S65536x1_0 (Host.reduceAdd (mulf x x) (constant S_ .f32 0x00000000#32) Gen.reducesTo_S65536x64_S65536_d1 Gen.h_S_))) (broadcastInDim S65536x1024 ![0, 1] Gen.bcast_S1x1024_S65536x1024_0_1 (broadcastInDim S1x1024 ![1] Gen.bcast_S1024_S1x1024_1 (Host.reduceAdd (mulf c c) (constant S_ .f32 0x00000000#32) Gen.reducesTo_S1024x64_S1024_d1 Gen.h_S_)))) (mulf (broadcastInDim S65536x1024 ![] Gen.bcast_S_S65536x1024 (constant S_ .f32 0x40000000#32)) (Host.dotGeneral dot_S65536x64_S64x1024_S65536x1024_1_0_0_1_n_n none x (transpose S64x1024 [1, 0] c Gen.transposes_S1024x64_S64x1024_1_0)))))) (iotaInDim S65536x1024 32 1)).2) Gen.slices_S65536x1024_S65536x1_0_0) Gen.shapeCasts_S65536x1_S65536
      = assign (n := 65536) x c := by
  funext j
  obtain ⟨r, rfl⟩ : ∃ r : Fin 65536, j = ix1 r := ⟨j 0, eq_ix1 j⟩
  refine first_column _ r (nearest (n := 65536) x c r) ?_
  refine Eq.mp (congrArg (fun f => At f _) ?_) (nearest_at (n := 65536) x c r)
  funext l
  unfold Nearest.dist
  pointwise [id]
  rw [max_comm]

end Cert.ReferenceIdeal.Sorted

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.KernelArray
public import proofs.«01_k».proof.Proof.ReferenceValue
public import Idealize.ShloMosaic.Adequacy
public import Idealize.ShloMosaic.Init

@[expose] public section

noncomputable section

namespace Cert.Proof

open Idealize.ShloMosaic Idealize.SL.Sem Cert.Kernel

/-- The kernel as printed: the generated frame. -/
theorem frame_kernel : Cert.quiescent_Kernel := fun m ρ _ => Cert.Kernel.Gen.frame m ρ

/-- The kernel over the ideal values: the generated frame. -/
theorem frame_kernel_ideal : Cert.quiescent_KernelIdeal := fun m ρ _ => Cert.KernelIdeal.Gen.frame m ρ

/-- The reference over the ideal values: its run read at the arguments; it declares no semaphore. -/
theorem frame_reference_ideal : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The ideal kernel is the printed kernel: nothing was rewritten. -/
theorem preserves : Cert.preserves_Kernel_KernelIdeal := trivial

/-- Over the ideal values the kernel and the reference both end at the nearest centres: for every point the index of
    the first centre at the least distance. -/
theorem algebraic : Cert.algebraic_KernelIdeal_ReferenceIdeal := by
  intro m ρ m' ρ' _ hagree
  refine ⟨fun c => Cert.KernelIdeal.Assigned.result m c, ?_, ?_⟩
  · exact Cert.KernelIdeal.Assigned.run m ρ
  refine (θ_run Cert.ReferenceIdeal.defs _ _).mono (fun _ h c => ⟨(h c).1.trans ?_, (h c).2⟩)
    (Cert.ReferenceIdeal.Value.run (F := Ideal) m' ρ')
  refine (Cert.ReferenceIdeal.Sorted.result_eq _ _).trans ?_
  unfold Cert.KernelIdeal.Assigned.result
  rw [(hagree c).1, (hagree c).2]

/-- The claims, together. -/
theorem claim : Cert.Claim :=
  ⟨Cert.Kernel.Gen.facts, Cert.KernelIdeal.Gen.facts, Cert.ReferenceIdeal.Gen.facts, frame_kernel, frame_kernel_ideal,
    frame_reference_ideal, preserves, algebraic⟩

end Cert.Proof

end
